-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def preserves_Reference_ReferenceIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S16x3000x513 : Shape := ⟨3, ![16, 3000, 513]⟩
abbrev S1x1x513 : Shape := ⟨3, ![1, 1, 513]⟩
abbrev S1 : Shape := ⟨1, ![1]⟩
abbrev S_ : Shape := ⟨0, ![]⟩
abbrev S200 : Shape := ⟨1, ![200]⟩
abbrev S200x1 : Shape := ⟨2, ![200, 1]⟩
abbrev S1x200 : Shape := ⟨2, ![1, 200]⟩
abbrev S200x200 : Shape := ⟨2, ![200, 200]⟩
abbrev S1x513 : Shape := ⟨2, ![1, 513]⟩
abbrev S1x3000x513 : Shape := ⟨3, ![1, 3000, 513]⟩
abbrev S1x200x513 : Shape := ⟨3, ![1, 200, 513]⟩
abbrev S200x513 : Shape := ⟨2, ![200, 513]⟩

abbrev nBuf : Space → Nat
  | .hbm => 37
  | .vmem => 8
  | .smem => 0
  | _ => 0

abbrev bufTy : (tb : Table) → Fin (tcTables nBuf tb) → BufTy
  | .hbm, ⟨0, _⟩ => ⟨S16x3000x513, .f32⟩
  | .hbm, ⟨1, _⟩ => ⟨S1x1x513, .f32⟩
  | .hbm, ⟨2, _⟩ => ⟨S1x1x513, .f32⟩
  | .hbm, ⟨3, _⟩ => ⟨S1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S200, .f32⟩
  | .hbm, ⟨8, _⟩ => ⟨S200x1, .f32⟩
  | .hbm, ⟨9, _⟩ => ⟨S1x200, .f32⟩
  | .hbm, ⟨10, _⟩ => ⟨S200x200, .f32⟩
  | .hbm, ⟨11, _⟩ => ⟨S200x200, .f32⟩
  | .hbm, ⟨12, _⟩ => ⟨S200x200, .f32⟩
  | .hbm, ⟨13, _⟩ => ⟨S_, .f32⟩
  | .hbm, ⟨14, _⟩ => ⟨S200x200, .f32⟩
  | .hbm, ⟨15, _⟩ => ⟨S200x200, .i1⟩
  | .hbm, ⟨16, _⟩ => ⟨S_, .f32⟩
  | .hbm, ⟨17, _⟩ => ⟨S200x200, .f32⟩
  | .hbm, ⟨18, _⟩ => ⟨S200x200, .f32⟩
  | .hbm, ⟨19, _⟩ => ⟨S200x200, .f32⟩
  | .hbm, ⟨20, _⟩ => ⟨S200x200, .f32⟩
  | .hbm, ⟨21, _⟩ => ⟨S200x200, .f32⟩
  | .hbm, ⟨22, _⟩ => ⟨S200x200, .f32⟩
  | .hbm, ⟨23, _⟩ => ⟨S_, .f32⟩
  | .hbm, ⟨24, _⟩ => ⟨S_, .f32⟩
  | .hbm, ⟨25, _⟩ => ⟨S200x200, .f32⟩
  | .hbm, ⟨26, _⟩ => ⟨S200x200, .f32⟩
  | .hbm, ⟨27, _⟩ => ⟨S200x200, .bf16⟩
  | .hbm, ⟨28, _⟩ => ⟨S_, .f32⟩
  | .hbm, ⟨29, _⟩ => ⟨S200, .f32⟩
  | .hbm, ⟨30, _⟩ => ⟨S200, .f32⟩
  | .hbm, ⟨31, _⟩ => ⟨S200, .f32⟩
  | .hbm, ⟨32, _⟩ => ⟨S200, .f32⟩
  | .hbm, ⟨33, _⟩ => ⟨S200x1, .f32⟩
  | .hbm, ⟨34, _⟩ => ⟨S1x513, .f32⟩
  | .hbm, ⟨35, _⟩ => ⟨S1x513, .f32⟩
  | .hbm, ⟨36, _⟩ => ⟨S16x3000x513, .f32⟩
  | .local _ .vmem, ⟨0, _⟩ => ⟨S200x200, .bf16⟩
  | .local _ .vmem, ⟨1, _⟩ => ⟨S200x1, .f32⟩
  | .local _ .vmem, ⟨2, _⟩ => ⟨S1x513, .f32⟩
  | .local _ .vmem, ⟨3, _⟩ => ⟨S1x513, .f32⟩
  | .local _ .vmem, ⟨4, _⟩ => ⟨S1x3000x513, .f32⟩
  | .local _ .vmem, ⟨5, _⟩ => ⟨S1x3000x513, .f32⟩
  | .local _ .vmem, ⟨6, _⟩ => ⟨S1x3000x513, .f32⟩
  | .local _ .vmem, ⟨7, _⟩ => ⟨S1x3000x513, .f32⟩
  | _, _ => ⟨S16x3000x513, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S200x200 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S200x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x513 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x513 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x3000x513 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3000x513 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference.lean ====
abbrev S16x3000x513 : Shape := ⟨3, ![16, 3000, 513]⟩
abbrev S1x1x513 : Shape := ⟨3, ![1, 1, 513]⟩
abbrev S1 : Shape := ⟨1, ![1]⟩
abbrev S_ : Shape := ⟨0, ![]⟩
abbrev S1x513 : Shape := ⟨2, ![1, 513]⟩
abbrev S16x513 : Shape := ⟨2, ![16, 513]⟩
abbrev S3000x16x513 : Shape := ⟨3, ![3000, 16, 513]⟩
abbrev S1x16x513 : Shape := ⟨3, ![1, 16, 513]⟩

abbrev nBuf : Space → Nat
  | .hbm => 64
  | .vmem => 0
  | .smem => 0
  | _ => 0

abbrev bufTy : (tb : Table) → Fin (tcTables nBuf tb) → BufTy
  | .hbm, ⟨0, _⟩ => ⟨S16x3000x513, .f32⟩
  | .hbm, ⟨1, _⟩ => ⟨S1x1x513, .f32⟩
  | .hbm, ⟨2, _⟩ => ⟨S1x1x513, .f32⟩
  | .hbm, ⟨3, _⟩ => ⟨S1, .f32⟩
  | .hbm, ⟨4, _⟩ => ⟨S_, .f32⟩
  | .hbm, ⟨5, _⟩ => ⟨S1x513, .f32⟩
  | .hbm, ⟨6, _⟩ => ⟨S16x513, .f32⟩
  | .hbm, ⟨7, _⟩ => ⟨S1x513, .f32⟩
  | .hbm, ⟨8, _⟩ => ⟨S16x513, .f32⟩
  | .hbm, ⟨9, _⟩ => ⟨S3000x16x513, .f32⟩
  | .hbm, ⟨10, _⟩ => ⟨S_, .f32⟩
  | .hbm, ⟨11, _⟩ => ⟨S3000x16x513, .f32⟩
  | .hbm, ⟨12, _⟩ => ⟨S_, .f32⟩
  | .hbm, ⟨13, _⟩ => ⟨S3000x16x513, .f32⟩
  | .hbm, ⟨14, _⟩ => ⟨S_, .i32⟩
  | .hbm, ⟨15, _⟩ => ⟨S3000x16x513, .f32⟩
  | .hbm, ⟨16, _⟩ => ⟨S_, .f32⟩
  | .hbm, ⟨17, _⟩ => ⟨S_, .i32⟩
  | .hbm, ⟨18, _⟩ => ⟨S16x513, .f32⟩
  | .hbm, ⟨19, _⟩ => ⟨S16x513, .f32⟩
  | .hbm, ⟨20, _⟩ => ⟨S3000x16x513, .f32⟩
  | .hbm, ⟨21, _⟩ => ⟨S3000x16x513, .f32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S1x16x513, .f32⟩
  | .hbm, ⟨27, _⟩ => ⟨S16x513, .f32⟩
  | .hbm, ⟨28, _⟩ => ⟨S_, .f32⟩
  | .hbm, ⟨29, _⟩ => ⟨S_, .f32⟩
  | .hbm, ⟨30, _⟩ => ⟨S16x513, .f32⟩
  | .hbm, ⟨31, _⟩ => ⟨S16x513, .f32⟩
  | .hbm, ⟨32, _⟩ => ⟨S16x513, .f32⟩
  | .hbm, ⟨33, _⟩ => ⟨S16x513, .f32⟩
  | .hbm, ⟨34, _⟩ => ⟨S16x513, .f32⟩
  | .hbm, ⟨35, _⟩ => ⟨S_, .f32⟩
  | .hbm, ⟨36, _⟩ => ⟨S_, .f32⟩
  | .hbm, ⟨37, _⟩ => ⟨S16x513, .f32⟩
  | .hbm, ⟨38, _⟩ => ⟨S16x513, .f32⟩
  | .hbm, ⟨39, _⟩ => ⟨S16x513, .f32⟩
  | .hbm, ⟨40, _⟩ => ⟨S16x513, .f32⟩
  | .hbm, ⟨41, _⟩ => ⟨S16x513, .f32⟩
  | .hbm, ⟨42, _⟩ => ⟨S16x513, .f32⟩
  | .hbm, ⟨43, _⟩ => ⟨S16x513, .f32⟩
  | .hbm, ⟨44, _⟩ => ⟨S1x16x513, .f32⟩
  | .hbm, ⟨45, _⟩ => ⟨S_, .i32⟩
  | .hbm, ⟨46, _⟩ => ⟨S_, .i32⟩
  | .hbm, ⟨47, _⟩ => ⟨S3000x16x513, .f32⟩
  | .hbm, ⟨48, _⟩ => ⟨S1x16x513, .f32⟩
  | .hbm, ⟨49, _⟩ => ⟨S_, .i32⟩
  | .hbm, ⟨50, _⟩ => ⟨S_, .i32⟩
  | .hbm, ⟨51, _⟩ => ⟨S3000x16x513, .f32⟩
  | .hbm, ⟨52, _⟩ => ⟨S_, .i32⟩
  | .hbm, ⟨53, _⟩ => ⟨S_, .i32⟩
  | .hbm, ⟨54, _⟩ => ⟨S16x3000x513, .f32⟩
  | .hbm, ⟨55, _⟩ => ⟨S16x3000x513, .f32⟩
  | .hbm, ⟨56, _⟩ => ⟨S16x3000x513, .f32⟩
  | .hbm, ⟨57, _⟩ => ⟨S_, .f32⟩
  | .hbm, ⟨58, _⟩ => ⟨S16x3000x513, .f32⟩
  | .hbm, ⟨59, _⟩ => ⟨S16x3000x513, .f32⟩
  | .hbm, ⟨60, _⟩ => ⟨S_, .f32⟩
  | .hbm, ⟨61, _⟩ => ⟨S16x3000x513, .f32⟩
  | .hbm, ⟨62, _⟩ => ⟨S16x3000x513, .f32⟩
  | .hbm, ⟨63, _⟩ => ⟨S16x3000x513, .f32⟩
  | _, _ => ⟨S16x3000x513, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_c : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev main_v8_6 : Ref sig .tc := ⟨.hbm, 21, rfl⟩
abbrev main_while0c_c_9 : Ref sig .tc := ⟨.hbm, 22, rfl⟩
abbrev main_while0c_v17 : Ref sig .tc := ⟨.hbm, 23, rfl⟩
abbrev main_while0b_call0_c : Ref sig .tc := ⟨.hbm, 24, rfl⟩
abbrev main_while0b_call0_c_0 : Ref sig .tc := ⟨.hbm, 25, rfl⟩
abbrev main_while0b_call0_v0 : Ref sig .tc := ⟨.hbm, 26, rfl⟩
abbrev main_while0b_v17 : Ref sig .tc := ⟨.hbm, 27, rfl⟩
abbrev main_while0b_cst_9 : Ref sig .tc := ⟨.hbm, 28, rfl⟩
abbrev main_while0b_v18 : Ref sig .tc := ⟨.hbm, 29, rfl⟩
abbrev main_while0b_v19 : Ref sig .tc := ⟨.hbm, 30, rfl⟩
abbrev main_while0b_v20 : Ref sig .tc := ⟨.hbm, 31, rfl⟩
abbrev main_while0b_v21 : Ref sig .tc := ⟨.hbm, 32, rfl⟩
abbrev main_while0b_v22 : Ref sig .tc := ⟨.hbm, 33, rfl⟩
abbrev main_while0b_v23 : Ref sig .tc := ⟨.hbm, 34, rfl⟩
abbrev main_while0b_cst_10 : Ref sig .tc := ⟨.hbm, 35, rfl⟩
abbrev main_while0b_v24 : Ref sig .tc := ⟨.hbm, 36, rfl⟩
abbrev main_while0b_v25 : Ref sig .tc := ⟨.hbm, 37, rfl⟩
abbrev main_while0b_v26 : Ref sig .tc := ⟨.hbm, 38, rfl⟩
abbrev main_while0b_v27 : Ref sig .tc := ⟨.hbm, 39, rfl⟩
abbrev main_while0b_v28 : Ref sig .tc := ⟨.hbm, 40, rfl⟩
abbrev main_while0b_v29 : Ref sig .tc := ⟨.hbm, 41, rfl⟩
abbrev main_while0b_v30 : Ref sig .tc := ⟨.hbm, 42, rfl⟩
abbrev main_while0b_v31 : Ref sig .tc := ⟨.hbm, 43, rfl⟩
abbrev main_while0b_call1_v0 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_v32 : Ref sig .tc := ⟨.hbm, 47, rfl⟩
abbrev main_while0b_call2_v0 : Ref sig .tc := ⟨.hbm, 48, rfl⟩
abbrev main_while0b_call2_c : Ref sig .tc := ⟨.hbm, 49, rfl⟩
abbrev main_while0b_call2_c_0 : Ref sig .tc := ⟨.hbm, 50, rfl⟩
abbrev main_while0b_v33 : Ref sig .tc := ⟨.hbm, 51, rfl⟩
abbrev main_while0b_c_11 : Ref sig .tc := ⟨.hbm, 52, rfl⟩
abbrev main_while0b_v34 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_cst_1 : Ref sig .tc := ⟨.hbm, 57, rfl⟩
abbrev main_v12 : Ref sig .tc := ⟨.hbm, 58, rfl⟩
abbrev main_v13 : Ref sig .tc := ⟨.hbm, 59, rfl⟩
abbrev main_cst_2 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩

abbrev nD : Nat := 1
abbrev τ : Topo := Topo.v7x

variable {F : FTy → Type} [FloatOps F]

abbrev main_while0_count : Scf.Loop 32 := ⟨0#32, 3000#32, 1#32⟩
-- ==== Proof.Chunk.lean ====
/- What one grid point of the kernel computes, as one function of the chunk and of the averages carried into it.

   A grid point holds one batch element: 3000 frames of 513 lanes, in 15 chunks of 200 frames. Each chunk is treated
   alike: two products with the weight triangle give every frame's mean and variance, and the chunk's last rows are
   carried into the next one. The generated text spells the 15 chunks out one after another; here they are one
   function of the chunk's number. -/
module

public import proofs.«01_k».proof.Proof.Gen.KernelIdeal.Frame
public import Idealize.ShloMosaic.Lib.Pointwise

@[expose] public section

noncomputable section

open Idealize.ShloMosaic Idealize.ShloMosaic.TcCoe Idealize.SL.Sem

namespace Cert.KernelIdeal.Chunk

open Cert.KernelIdeal Cert.KernelIdeal.Gen

variable {F : FTy → Type} [FloatOps F]

/-- The running averages of a chunk's 200 rows: the weight triangle `A` times the rows, plus the carried-in average
    times its powers `p`. -/
def rows (A : FVec F S200x200 .bf16) (p : FVec F S200x1 .f32) (s : FVec F S1x513 .f32) (x : FVec F S200x513 .f32) :
    FVec F S200x513 .f32 :=
  addf (matmul dot_S200x200_S200x513_S200x513_1_0_0_1_n_n none A (truncf .bf16 x bitsLt_bf16_f32)
      (constant S200x513 .f32 0x00000000#32))
    (mulf (broadcastTo S200x513 p broadcasts_S200x1_S200x513) (broadcastTo S200x513 s broadcasts_S1x513_S200x513))

/-- A chunk's last row, which the next chunk starts from. -/
def last (x : FVec F S200x513 .f32) : FVec F S1x513 .f32 :=
  extractStridedSlice S1x513 ![199, 0] x slices_S200x513_o199_0_S1x513

/-- The squared deviations of a chunk's rows from their running means. -/
def devSq (x m : FVec F S200x513 .f32) : FVec F S200x513 .f32 := mulf (subf x m) (subf x m)

/-- The normalized rows: deviation over four times the variance plus a small constant. -/
def quot (x m v : FVec F S200x513 .f32) : FVec F S200x513 .f32 :=
  divf (subf x m) (addf (mulf v (broadcast S200x513 (Scalar.ofBits .f32 0x40800000#32)))
    (broadcast S200x513 (Scalar.ofBits .f32 0x2B8CBCCC#32)))

variable (A : FVec F S200x200 .bf16) (p : FVec F S200x1 .f32) (m0 v0 : FVec F S1x513 .f32) (xs : ℕ → FVec F S200x513 .f32)

/-- The mean carried into chunk `n`. -/
def mIn : ℕ → FVec F S1x513 .f32
  | 0 => m0
  | n + 1 => last (rows A p (mIn n) (xs n))

/-- The running means of chunk `n`'s rows. -/
def mRows (n : ℕ) : FVec F S200x513 .f32 := rows A p (mIn A p m0 xs n) (xs n)

/-- The variance carried into chunk `n`. -/
def vIn : ℕ → FVec F S1x513 .f32
  | 0 => v0
  | n + 1 => last (rows A p (vIn n) (devSq (xs n) (mRows A p m0 xs n)))

/-- The running variances of chunk `n`'s rows. -/
def vRows (n : ℕ) : FVec F S200x513 .f32 :=
  rows A p (vIn A p m0 v0 xs n) (devSq (xs n) (mRows A p m0 xs n))

/-- The normalized rows of chunk `n`, in the shape in which they are stored. -/
def stored (n : ℕ) : FVec F S1x200x513 .f32 :=
  shapeCast S1x200x513 (quot (xs n) (mRows A p m0 xs n) (vRows A p m0 v0 xs n)) shapeCasts_S200x513_S1x200x513

/-- Chunk `j` of the 15 lies inside the 3000 frames. -/
theorem chunk_inside (j : ℕ) : ∀ a, (![0, 200 * (j % 15), 0] : Fin 3 → ℕ) a + S1x200x513.size a ≤ S1x3000x513.size a := by
  have h : j % 15 < 15 := Nat.mod_lt _ (by decide)
  intro a
  match a with
  | ⟨0, _⟩ => show 0 + 1 ≤ 1; omega
  | ⟨1, _⟩ => show 200 * (j % 15) + 200 ≤ 3000; omega
  | ⟨2, _⟩ => show 0 + 513 ≤ 513; omega

/-- The place of chunk `j` among the 3000 frames: frames `200 j` to `200 j + 199`. -/
def place (j : ℕ) : Rect S1x3000x513 := Rect.unit (s := S1x3000x513) ![0, 200 * (j % 15), 0] S1x200x513.size (chunk_inside j)

/-- The rows of chunk `j` of a batch element `x`. -/
def frames (x : Vec F S1x3000x513 .f32) (j : ℕ) : FVec F S200x513 .f32 :=
  shapeCast S200x513 (View.ld x (place j)) shapeCasts_S1x200x513_S200x513

/-- What a grid point stores: the generated text's 15 pieces are the one function `stored` at the 15 chunk numbers. -/
theorem out_eq (x0 : Vec F S200x200 .bf16) (x1 : Vec F S200x1 .f32) (x2 x3 : Vec F S1x513 .f32) (x4 : Vec F S1x3000x513 .f32) :
    out0_5 x0 x1 x2 x3 x4 = View.canon (List.ofFn fun k : Fin 15 =>
      (⟨place (14 - k.val), stored (shapeCast S200x200 (View.ld x0 r0_0) shapeCasts_S200x200_S200x200)
        (shapeCast S200x1 (View.ld x1 r0_1) shapeCasts_S200x1_S200x1)
        (shapeCast S1x513 (View.ld x2 r0_2) shapeCasts_S1x513_S1x513)
        (shapeCast S1x513 (View.ld x3 r0_2) shapeCasts_S1x513_S1x513) (frames x4) (14 - k.val)⟩ : View.Piece (Elt F) S1x3000x513 .f32)) := by
  sl_kernel_rfl

end Cert.KernelIdeal.Chunk

end
-- ==== Proof.Average.lean ====
/- The mathematics of a running average over the extended reals, with no program in it.

   A running average with weights `c` on the past and `a` on the present starts at `s` and takes in the values `x 0`,
   `x 1`, … one at a time. This module writes it as a recursion, shows it may be stopped and started again, and shows
   that it equals a weighted sum in closed form when `a ≤ 1` and `c = 1 - a`. -/
module

public import Idealize.ShloMosaic.PureOps.Ideal

@[expose] public section

noncomputable section

namespace Cert.Average

open Finset

/-- The running average after `n` values: `s` at first, then each value in turn is blended in. -/
def avg (c a s : EReal) (x : ℕ → EReal) : ℕ → EReal
  | 0 => s
  | n + 1 => c * avg c a s x n + a * x n

/-- The running average reads only the values taken in so far. -/
theorem avg_congr {c a s : EReal} {x y : ℕ → EReal} : ∀ {n : ℕ}, (∀ i < n, x i = y i) → avg c a s x n = avg c a s y n
  | 0, _ => rfl
  | n + 1, h => by
    rw [avg, avg, avg_congr (n := n) fun i hi => h i (by omega), h n (by omega)]

/-- Stopping after `p` values and starting again from the average reached gives the same average. -/
theorem avg_add (c a s : EReal) (x : ℕ → EReal) (p : ℕ) :
    ∀ n, avg c a s x (p + n) = avg c a (avg c a s x p) (fun i => x (p + i)) n
  | 0 => rfl
  | n + 1 => by
    rw [← Nat.add_assoc, avg, avg, avg_add c a s x p n]

/-- The weighted sum in closed form: value `j` of `n` weighs `a * c ^ (n - 1 - j)`, the start weighs `c ^ n`. -/
def wsum (c a s : EReal) (x : ℕ → EReal) (n : ℕ) : EReal :=
  (∑ j ∈ range n, a * c ^ (n - 1 - j) * x j) + c ^ n * s

/-- A nonnegative real number distributes over a finite sum of extended reals. -/
theorem coe_mul_sum {r : ℝ} (hr : 0 ≤ r) (f : ℕ → EReal) (n : ℕ) :
    (r : EReal) * ∑ j ∈ range n, f j = ∑ j ∈ range n, (r : EReal) * f j := by
  induction n with
  | zero => simp
  | succ n ih =>
    rw [sum_range_succ, sum_range_succ, EReal.left_distrib_of_nonneg_of_ne_top (by exact_mod_cast hr) (EReal.coe_ne_top r), ih]

/-- The extended reals that are zero or infinite. -/
def Extreme (u : EReal) : Prop := u = 0 ∨ u = ⊤ ∨ u = ⊥

/-- Zero and the infinities are closed under addition. -/
theorem Extreme.add {u v : EReal} (hu : Extreme u) (hv : Extreme v) : Extreme (u + v) := by
  rcases hu with rfl | rfl | rfl <;> rcases hv with rfl | rfl | rfl <;> simp [Extreme]

/-- Plus infinity times zero or an infinity changes nothing. -/
theorem Extreme.top_mul {u : EReal} (hu : Extreme u) : ⊤ * u = u := by
  rcases hu with rfl | rfl | rfl <;> simp

/-- An infinity times anything is zero or an infinity. -/
theorem extreme_top_mul (y : EReal) : Extreme (⊤ * y) := by
  rcases lt_trichotomy y 0 with h | rfl | h
  · rw [EReal.top_mul_of_neg h]; simp [Extreme]
  · simp [Extreme]
  · rw [EReal.top_mul_of_pos h]; simp [Extreme]

/-- Minus infinity times anything is zero or an infinity. -/
theorem extreme_bot_mul (y : EReal) : Extreme (⊥ * y) := by
  rcases lt_trichotomy y 0 with h | rfl | h
  · rw [EReal.bot_mul_of_neg h]; simp [Extreme]
  · simp [Extreme]
  · rw [EReal.bot_mul_of_pos h]; simp [Extreme]

/-- A finite sum of zeros and infinities is zero or an infinity. -/
theorem extreme_sum (f : ℕ → EReal) (h : ∀ j, Extreme (f j)) (n : ℕ) : Extreme (∑ j ∈ range n, f j) := by
  induction n with
  | zero => simp [Extreme]
  | succ n ih => rw [sum_range_succ]; exact ih.add (h n)

/-- A weight `a ≤ 1` is a real number, with `1 - a` a nonnegative real, or it is minus infinity. -/
theorem weight_cases {a : EReal} (ha : a ≤ 1) :
    (∃ r : ℝ, 0 ≤ r ∧ 1 - a = (r : EReal)) ∨ (a = ⊥ ∧ 1 - a = ⊤) := by
  induction a using EReal.rec with
  | bot => right; exact ⟨rfl, by decide⟩
  | coe a =>
    left
    refine ⟨1 - a, ?_, by norm_cast⟩
    have : a ≤ 1 := by exact_mod_cast ha
    linarith
  | top => exact absurd ha (by decide)

/-- One value more in the weighted sum: every weight so far gains a factor `c`, and the value is added. -/
theorem wsum_unroll (c a s : EReal) (x : ℕ → EReal) (n : ℕ) :
    wsum c a s x (n + 1) = ((∑ j ∈ range n, c * (a * c ^ (n - 1 - j) * x j)) + c * (c ^ n * s)) + a * x n := by
  unfold wsum
  have e : ∀ j ∈ range n, a * c ^ (n + 1 - 1 - j) * x j = c * (a * c ^ (n - 1 - j) * x j) := by
    intro j hj
    have hj' : j < n := mem_range.mp hj
    rw [show n + 1 - 1 - j = (n - 1 - j) + 1 by omega, pow_succ]
    ac_rfl
  rw [sum_range_succ, sum_congr rfl e, show n + 1 - 1 - n = 0 by omega, pow_zero, mul_one, pow_succ']
  ac_rfl

/-- The past's weight multiplies through the weighted sum: one step of the recursion on the closed form. -/
theorem wsum_succ {a : EReal} (ha : a ≤ 1) (s : EReal) (x : ℕ → EReal) (n : ℕ) :
    wsum (1 - a) a s x (n + 1) = (1 - a) * wsum (1 - a) a s x n + a * x n := by
  rw [wsum_unroll]
  unfold wsum
  congr 1
  rcases weight_cases ha with ⟨r, hr, hc⟩ | ⟨rfl, hc⟩ <;> rw [hc]
  · rw [EReal.left_distrib_of_nonneg_of_ne_top (by exact_mod_cast hr) (EReal.coe_ne_top r), coe_mul_sum hr]
  · have hx : ∀ j, Extreme (⊥ * ⊤ ^ (n - 1 - j) * x j) := fun j => by rw [mul_assoc]; exact extreme_bot_mul _
    rw [sum_congr rfl fun j _ => (hx j).top_mul]
    rcases n with _ | n
    · simp
    · have hs : Extreme (⊤ ^ (n + 1) * s) := by rw [pow_succ', mul_assoc]; exact extreme_top_mul _
      rw [((extreme_sum _ hx _).add hs).top_mul, hs.top_mul]

/-- With a present weight `a ≤ 1` and a past weight `1 - a` the running average IS the weighted sum, for values of
    every kind, the infinities among them. -/
theorem avg_eq_wsum {a : EReal} (ha : a ≤ 1) (s : EReal) (x : ℕ → EReal) :
    ∀ n, avg (1 - a) a s x n = wsum (1 - a) a s x n
  | 0 => by simp [avg, wsum]
  | n + 1 => by rw [avg, wsum_succ ha, avg_eq_wsum ha s x n]

/-- A row of the weight triangle: the weights are spread over `L` places, those past place `r` being zero. -/
theorem wsum_of_triangle (c a s : EReal) (x : ℕ → EReal) (L r : ℕ) (hr : r < L) :
    (∑ k : Fin L, (if k.val ≤ r then a * c ^ (r - k.val) else 0) * x k) + c ^ (r + 1) * s = wsum c a s x (r + 1) := by
  unfold wsum
  congr 1
  rw [Finset.sum_fin_eq_sum_range]
  rw [← Finset.sum_subset (Finset.range_subset_range.mpr (show r + 1 ≤ L by omega))]
  · refine sum_congr rfl fun j hj => ?_
    have hj' : j < r + 1 := mem_range.mp hj
    rw [dif_pos (show j < L by omega), if_pos (show j ≤ r by omega), show r + 1 - 1 - j = r - j by omega]
  · intro j hj hj'
    have h1 : j < L := mem_range.mp hj
    have h2 : ¬ j < r + 1 := fun h => hj' (mem_range.mpr h)
    rw [dif_pos h1, if_neg (show ¬ j ≤ r by omega), zero_mul]

/-- The power of `1 - a` by a natural number, as the programs' power computes it, is the repeated product, unless the
    factor `a` is plus infinity. -/
theorem pow_weight {a : EReal} (ha : a ≠ ⊤) (n : ℕ) :
    Idealize.ShloMosaic.Ideal.pow (1 - a) ((n : ℝ) : EReal) = (1 - a) ^ n := by
  induction a using EReal.rec with
  | coe a =>
    rw [← EReal.coe_one, ← EReal.coe_sub]
    show ((Real.rpow (1 - a) (n : ℝ) : ℝ) : EReal) = _
    rw [Real.rpow_eq_pow, Real.rpow_natCast]
    exact_mod_cast rfl
  | bot =>
    show (if (0 : EReal) < ((n : ℝ) : EReal) then (⊤ : EReal) else if ((n : ℝ) : EReal) = 0 then 1 else 0) = ⊤ ^ n
    rcases n with _ | n
    · simp
    · have hn : (0 : EReal) < (((n + 1 : ℕ) : ℝ) : EReal) := by exact_mod_cast Nat.succ_pos n
      have ht : ∀ k : ℕ, (⊤ : EReal) ^ (k + 1) = ⊤ := by
        intro k
        induction k with
        | zero => simp
        | succ k ih => rw [pow_succ, ih]; rfl
      rw [if_pos hn, ht]
  | top => exact absurd rfl ha

open Idealize.ShloMosaic in
/-- The factor of the variance in the denominator, `4`, as the programs spell it. -/
def four : EReal := Ideal.ofBits .f32 0x40800000#32

open Idealize.ShloMosaic in
/-- The small constant added to the denominator, as the programs spell it. -/
def small : EReal := Ideal.ofBits .f32 0x2B8CBCCC#32

/-- The running mean after `n` frames. -/
def mean (c a m0 : EReal) (x : ℕ → EReal) (n : ℕ) : EReal := avg c a m0 x n

/-- The squared deviation of frame `t` from the running mean it is part of. -/
def sqDev (c a m0 : EReal) (x : ℕ → EReal) (t : ℕ) : EReal :=
  (x t - mean c a m0 x (t + 1)) * (x t - mean c a m0 x (t + 1))

/-- The running variance after `n` frames: the running average of the squared deviations. -/
def var (c a m0 v0 : EReal) (x : ℕ → EReal) (n : ℕ) : EReal := avg c a v0 (sqDev c a m0 x) n

/-- Frame `t` normalized: its deviation over four times the variance plus a small constant. -/
def normed (c a m0 v0 : EReal) (x : ℕ → EReal) (t : ℕ) : EReal :=
  Idealize.ShloMosaic.Ideal.div (x t - mean c a m0 x (t + 1)) (var c a m0 v0 x (t + 1) * four + small)

/-- A squared deviation reads only the frames up to its own. -/
theorem sqDev_congr {c a m0 : EReal} {x y : ℕ → EReal} {t : ℕ} (h : ∀ i < t + 1, x i = y i) :
    sqDev c a m0 x t = sqDev c a m0 y t := by
  unfold sqDev mean
  rw [avg_congr h, h t (by omega)]

/-- A normalized frame reads only the frames up to its own. -/
theorem normed_congr {c a m0 v0 : EReal} {x y : ℕ → EReal} {t : ℕ} (h : ∀ i < t + 1, x i = y i) :
    normed c a m0 v0 x t = normed c a m0 v0 y t := by
  unfold normed mean var
  rw [avg_congr h, h t (by omega), avg_congr fun i hi => sqDev_congr fun j hj => h j (by omega)]

end Cert.Average

end
-- ==== Proof.Alike.lean ====
/- When kernel and reference differ only where it cannot be seen.

   The kernel computes the averages in closed form, the reference by the recursion. With a smoothing factor of at most
   one the two are equal. With a larger factor the past's weight `1 - a` is negative, and a negative number does not
   distribute over a sum of opposite infinities: the two may then carry different infinities, but both carry one,
   and dividing by an infinite variance gives zero whichever it is. With an infinite factor every frame comes out zero. -/
module

public import proofs.«01_k».proof.Proof.Average

@[expose] public section

noncomputable section

namespace Cert.Average

open Finset

/-- The factor 4 is not zero. -/
theorem four_ne_zero : four ≠ 0 := by
  have h : four = ((4 : ℝ) : EReal) := by
    unfold four
    simp [Idealize.ShloMosaic.Ideal.ofBits, Idealize.ShloMosaic.Ideal.ieee, -EReal.coe_mul]
    norm_num
  rw [h]
  exact_mod_cast (by norm_num : (4 : ℝ) ≠ 0)

/-- The small constant is not zero. -/
theorem small_ne_zero : small ≠ 0 := by
  unfold small
  simp [Idealize.ShloMosaic.Ideal.ofBits, Idealize.ShloMosaic.Ideal.ieee, -EReal.coe_mul]

/-- Plus or minus infinity. -/
def Infinite (u : EReal) : Prop := u = ⊤ ∨ u = ⊥

/-- An infinity plus anything is an infinity. -/
theorem Infinite.add_left {u : EReal} (h : Infinite u) (v : EReal) : Infinite (u + v) := by
  rcases h with rfl | rfl <;> induction v using EReal.rec <;> simp [Infinite]

/-- Anything plus an infinity is an infinity. -/
theorem Infinite.add_right {u : EReal} (h : Infinite u) (v : EReal) : Infinite (v + u) := by
  rw [add_comm]
  exact h.add_left v

/-- The opposite of an infinity is an infinity. -/
theorem Infinite.neg {u : EReal} (h : Infinite u) : Infinite (-u) := by
  rcases h with rfl | rfl <;> simp [Infinite]

/-- Anything but zero times an infinity is an infinity. -/
theorem Infinite.mul_left {u w : EReal} (h : Infinite u) (hw : w ≠ 0) : Infinite (w * u) := by
  rcases lt_or_gt_of_ne hw with hn | hp
  · rcases h with rfl | rfl
    · rw [EReal.mul_top_of_neg hn]; simp [Infinite]
    · rw [EReal.mul_bot_of_neg hn]; simp [Infinite]
  · rcases h with rfl | rfl
    · rw [EReal.mul_top_of_pos hp]; simp [Infinite]
    · rw [EReal.mul_bot_of_pos hp]; simp [Infinite]

/-- An infinity is not zero. -/
theorem Infinite.ne_zero {u : EReal} (h : Infinite u) : u ≠ 0 := by
  rcases h with rfl | rfl <;> simp

/-- An extended real is a real number or an infinity. -/
theorem real_or_infinite (u : EReal) : (∃ r : ℝ, u = r) ∨ Infinite u := by
  induction u using EReal.rec with
  | bot => exact .inr (.inr rfl)
  | coe r => exact .inl ⟨r, rfl⟩
  | top => exact .inr (.inl rfl)

/-- Over an infinite variance every frame is zero. -/
theorem div_infinite (d : EReal) {v : EReal} (h : Infinite v) : Idealize.ShloMosaic.Ideal.div d (v * four + small) = 0 := by
  have hy : Infinite (v * four + small) := by
    rw [mul_comm]
    exact (h.mul_left four_ne_zero).add_left _
  unfold Idealize.ShloMosaic.Ideal.div
  rw [if_neg hy.ne_zero]
  rcases hy with e | e <;> simp [e]

/-- Equal, or both infinite. -/
def Close (u v : EReal) : Prop := u = v ∨ (Infinite u ∧ Infinite v)

/-- Two infinities are as good as equal. -/
theorem Close.trans {u v w : EReal} (h : Close u v) (h' : Close v w) : Close u w := by
  rcases h with rfl | ⟨hu, hv⟩
  · exact h'
  · rcases h' with rfl | ⟨_, hw⟩
    · exact .inr ⟨hu, hv⟩
    · exact .inr ⟨hu, hw⟩

/-- Sums of close numbers are close. -/
theorem Close.add {u u' v v' : EReal} (h : Close u u') (h' : Close v v') : Close (u + v) (u' + v') := by
  rcases h with rfl | ⟨hu, hu'⟩
  · rcases h' with rfl | ⟨hv, hv'⟩
    · exact .inl rfl
    · exact .inr ⟨hv.add_right _, hv'.add_right _⟩
  · exact .inr ⟨hu.add_left _, hu'.add_left _⟩

/-- Opposites of close numbers are close. -/
theorem Close.neg {u u' : EReal} (h : Close u u') : Close (-u) (-u') := by
  rcases h with rfl | ⟨hu, hu'⟩
  · exact .inl rfl
  · exact .inr ⟨hu.neg, hu'.neg⟩

/-- Products of close numbers by one weight are close. -/
theorem Close.mul {u u' : EReal} (h : Close u u') (w : EReal) : Close (w * u) (w * u') := by
  rcases h with rfl | ⟨hu, hu'⟩
  · exact .inl rfl
  · by_cases hw : w = 0
    · left; rw [hw, zero_mul, zero_mul]
    · exact .inr ⟨hu.mul_left hw, hu'.mul_left hw⟩

/-- Squares of close numbers are close. -/
theorem Close.square {u u' : EReal} (h : Close u u') : Close (u * u) (u' * u') := by
  rcases h with rfl | ⟨hu, hu'⟩
  · exact .inl rfl
  · exact .inr ⟨hu.mul_left hu.ne_zero, hu'.mul_left hu'.ne_zero⟩

/-- A real number distributes over a sum, up to the kind of an infinity. -/
theorem close_distrib (r : ℝ) (u v : EReal) : Close ((r : EReal) * u + (r : EReal) * v) ((r : EReal) * (u + v)) := by
  by_cases hr : (r : EReal) = 0
  · left; rw [hr, zero_mul, zero_mul, zero_mul, add_zero]
  · rcases real_or_infinite u with ⟨p, rfl⟩ | hu
    · rcases real_or_infinite v with ⟨q, rfl⟩ | hv
      · left; norm_cast; ring
      · exact .inr ⟨(hv.mul_left hr).add_right _, (hv.add_right _).mul_left hr⟩
    · exact .inr ⟨(hu.mul_left hr).add_left _, (hu.add_left _).mul_left hr⟩

/-- A real number distributes over a finite sum, up to the kind of an infinity. -/
theorem close_distrib_sum (r : ℝ) (f : ℕ → EReal) (n : ℕ) :
    Close (∑ j ∈ range n, (r : EReal) * f j) ((r : EReal) * ∑ j ∈ range n, f j) := by
  induction n with
  | zero => left; simp
  | succ n ih =>
    rw [sum_range_succ, sum_range_succ]
    exact (ih.add (.inl rfl)).trans (close_distrib r _ _)

/-- A likeness of the kernel's numbers to the reference's that the programs' operations keep, that the closed form has to
    the recursion, and that the final quotient turns into equality. -/
structure Alike (a : EReal) (R : EReal → EReal → Prop) : Prop where
  refl : ∀ u, R u u
  trans : ∀ {u v w}, R u v → R v w → R u w
  add : ∀ {u u' v v'}, R u u' → R v v' → R (u + v) (u' + v')
  neg : ∀ {u u'}, R u u' → R (-u) (-u')
  mul : ∀ {u u'}, R u u' → ∀ w, R (w * u) (w * u')
  square : ∀ {u u'}, R u u' → R (u * u) (u' * u')
  closed : ∀ s x n, R (wsum (1 - a) a s x n) (avg (1 - a) a s x n)
  quot : ∀ {d d' v w}, R d d' → R v (w + a * (d' * d')) → Idealize.ShloMosaic.Ideal.div d (v * four + small)
    = Idealize.ShloMosaic.Ideal.div d' ((w + a * (d' * d')) * four + small)

/-- With a factor of at most one, equality is such a likeness. -/
theorem alike_eq {a : EReal} (ha : a ≤ 1) : Alike a Eq where
  refl _ := rfl
  trans := Eq.trans
  add h h' := by rw [h, h']
  neg h := by rw [h]
  mul h _ := by rw [h]
  square h := by rw [h]
  closed s x n := (avg_eq_wsum ha s x n).symm
  quot h h' := by rw [h, h']

/-- With a larger real factor, being close is such a likeness. -/
theorem alike_close {a : ℝ} (ha : a ≠ 0) : Alike (a : EReal) Close where
  refl _ := .inl rfl
  trans := Close.trans
  add := Close.add
  neg := Close.neg
  mul := Close.mul
  square := Close.square
  closed s x n := by
    have hc : (1 : EReal) - (a : EReal) = ((1 - a : ℝ) : EReal) := by norm_cast
    rw [hc]
    induction n with
    | zero => left; simp [avg, wsum]
    | succ n ih =>
      rw [wsum_unroll, avg]
      exact ((((close_distrib_sum _ _ n).add (.inl rfl)).trans (close_distrib _ _ _)).trans (ih.mul _)).add (.inl rfl)
  quot := by
    intro d d' v w hd hv
    have both : Infinite (w + (a : EReal) * (d' * d')) → Idealize.ShloMosaic.Ideal.div d (v * four + small)
        = Idealize.ShloMosaic.Ideal.div d' ((w + (a : EReal) * (d' * d')) * four + small) := by
      intro hi
      have hv' : Infinite v := by
        rcases hv with e | ⟨h, _⟩
        · rw [e]; exact hi
        · exact h
      rw [div_infinite d hv', div_infinite d' hi]
    rcases hd with rfl | ⟨_, hd'⟩
    · rcases hv with e | ⟨_, hi⟩
      · rw [e]
      · exact both hi
    · exact both (((hd'.mul_left hd'.ne_zero).mul_left (by exact_mod_cast ha)).add_right _)

/-- Running averages of values alike are alike. -/
theorem Alike.avg {a : EReal} {R : EReal → EReal → Prop} (h : Alike a R) (c b : EReal) {s s' : EReal} {x x' : ℕ → EReal}
    (hs : R s s') : ∀ n, (∀ i < n, R (x i) (x' i)) → R (avg c b s x n) (avg c b s' x' n)
  | 0, _ => hs
  | n + 1, hx => h.add (h.mul (h.avg c b hs n fun i hi => hx i (by omega)) _) (h.mul (hx n (by omega)) _)

/-- Every factor but plus infinity has such a likeness. -/
theorem exists_alike {a : EReal} (ha : a ≠ ⊤) : ∃ R, Alike a R := by
  by_cases h : a ≤ 1
  · exact ⟨Eq, alike_eq h⟩
  · induction a using EReal.rec with
    | bot => exact absurd bot_le h
    | coe a => exact ⟨Close, alike_close fun e => h (by rw [e]; exact_mod_cast zero_le_one)⟩
    | top => exact absurd rfl ha

/-- A frame is zero when the variance is zero or infinite, and infinite unless the deviation is zero. -/
theorem div_eq_zero {d v : EReal} (hv : Extreme v) (hd : d ≠ 0 → Infinite v) :
    Idealize.ShloMosaic.Ideal.div d (v * four + small) = 0 := by
  by_cases h : Infinite v
  · exact div_infinite d h
  · have e : v = 0 := hv.resolve_right h
    have ed : d = 0 := by_contra fun hne => h (hd hne)
    rw [e, ed, zero_mul, zero_add]
    unfold Idealize.ShloMosaic.Ideal.div
    rw [if_neg small_ne_zero, zero_mul]

/-- With the factor plus infinity every normalized frame is zero. -/
theorem normed_top (m0 v0 : EReal) (x : ℕ → EReal) (t : ℕ) : normed (1 - ⊤) ⊤ m0 v0 x t = 0 := by
  unfold normed
  have e : var (1 - ⊤) ⊤ m0 v0 x (t + 1) = ⊥ * var (1 - ⊤) ⊤ m0 v0 x t + ⊤ * sqDev (1 - ⊤) ⊤ m0 x t := rfl
  rw [e]
  refine div_eq_zero ((extreme_bot_mul _).add (extreme_top_mul _)) fun hd => Infinite.add_right ?_ _
  unfold sqDev
  rw [mul_comm]
  exact Infinite.mul_left (.inl rfl) (mul_ne_zero hd hd)

end Cert.Average

end
-- ==== Proof.Chunks.lean ====
/- The 15 chunks of one grid point are one running average over 3000 frames.

   Read at an index, a chunk's rows are the weighted sum of `Average.lean`; the weights being a power triangle, that
   sum is like the running average started at what was carried in. Chunk after chunk the averages go on where they
   stopped, and the final quotient makes the likeness of `Alike.lean` an equality. -/
module

public import proofs.«01_k».proof.Proof.Chunk
public import proofs.«01_k».proof.Proof.Alike

@[expose] public section

noncomputable section

open Idealize.ShloMosaic Idealize.ShloMosaic.TcCoe Idealize.SL.Sem

namespace Cert.KernelIdeal.Chunk

open Cert.KernelIdeal Cert.KernelIdeal.Gen Cert.Average

/-- Row `r`, lane `f` of a chunk's averages, as a sum over the chunk's rows. -/
theorem rows_apply (A : FVec Ideal S200x200 .bf16) (p : FVec Ideal S200x1 .f32) (s : FVec Ideal S1x513 .f32)
    (x : FVec Ideal S200x513 .f32) (r : Fin 200) (f : Fin 513) :
    rows A p s x (ix2 r f) = (∑ k : Fin 200, A (ix2 r k) * x (ix2 k f)) + p (ix2 r 0) * s (ix2 0 f) := by
  unfold rows
  pointwise

/-- The last row of a chunk is its row 199. -/
theorem last_apply (x : FVec Ideal S200x513 .f32) (f : Fin 513) : last x (ix2 0 f) = x (ix2 199 f) := by
  unfold last
  pointwise

/-- The square of the deviation, at an index. -/
theorem devSq_apply (x m : FVec Ideal S200x513 .f32) (r : Fin 200) (f : Fin 513) :
    devSq x m (ix2 r f) = (x (ix2 r f) - m (ix2 r f)) * (x (ix2 r f) - m (ix2 r f)) := rfl

/-- Frame `t` of lane `f`, the chunks `xs` laid end to end. -/
def lane (xs : ℕ → FVec Ideal S200x513 .f32) (f : Fin 513) (t : ℕ) : EReal :=
  xs (t / 200) (ix2 ⟨t % 200, Nat.mod_lt _ (by decide)⟩ f)

/-- Row `r` of chunk `n` is frame `200 n + r`. -/
theorem lane_row (xs : ℕ → FVec Ideal S200x513 .f32) (f : Fin 513) (n : ℕ) (r : Fin 200) :
    lane xs f (200 * n + r.val) = xs n (ix2 r f) := by
  have hr : r.val < 200 := r.isLt
  unfold lane
  rw [show (200 * n + r.val) / 200 = n by omega]
  congr 2
  apply Fin.ext
  show (200 * n + r.val) % 200 = r.val
  omega

/-- The weight triangle and the powers that the chunk products read, the powers as the programs compute them: `A r k` is
    `a * (1 - a) ^ (r - k)` on and below the diagonal and zero above it, `p r` is `(1 - a) ^ (r + 1)`. -/
structure Weights (a : EReal) (A : FVec Ideal S200x200 .bf16) (p : FVec Ideal S200x1 .f32) : Prop where
  triangle : ∀ r k : Fin 200, A (ix2 r k)
    = if k.val ≤ r.val then a * Ideal.pow (1 - a) (((r.val - k.val : ℕ) : ℝ) : EReal) else 0
  powers : ∀ r : Fin 200, p (ix2 r 0) = Ideal.pow (1 - a) (((r.val + 1 : ℕ) : ℝ) : EReal)

variable {a : EReal} {A : FVec Ideal S200x200 .bf16} {p : FVec Ideal S200x1 .f32}

/-- With those weights and a factor other than plus infinity, a chunk's row is the weighted sum of the rows up to it. -/
theorem rows_wsum (h : Weights a A p) (ha : a ≠ ⊤) (s : FVec Ideal S1x513 .f32) (x : FVec Ideal S200x513 .f32)
    (f : Fin 513) (r : Fin 200) :
    rows A p s x (ix2 r f)
      = wsum (1 - a) a (s (ix2 0 f)) (fun i => if hi : i < 200 then x (ix2 ⟨i, hi⟩ f) else 0) (r.val + 1) := by
  rw [rows_apply, ← wsum_of_triangle (1 - a) a _ _ 200 r.val r.isLt, h.powers, pow_weight ha]
  congr 1
  exact Finset.sum_congr rfl fun k _ => by rw [h.triangle, pow_weight ha, dif_pos k.isLt]

variable {R : EReal → EReal → Prop}

/-- A chunk's row is like the running average of values like the rows up to it. -/
theorem rows_alike (h : Weights a A p) (ha : a ≠ ⊤) (hR : Alike a R) {s : FVec Ideal S1x513 .f32}
    {x : FVec Ideal S200x513 .f32} {f : Fin 513} {s' : EReal} {X : ℕ → EReal} (hs : R (s (ix2 0 f)) s')
    (hX : ∀ k : Fin 200, R (x (ix2 k f)) (X k.val)) (r : Fin 200) :
    R (rows A p s x (ix2 r f)) (avg (1 - a) a s' X (r.val + 1)) := by
  rw [rows_wsum h ha]
  refine hR.trans (hR.closed _ _ _) (hR.avg _ _ hs _ fun i hi => ?_)
  have hi' : i < 200 := by have := r.isLt; omega
  rw [dif_pos hi']
  exact hX ⟨i, hi'⟩

variable (m0 v0 : FVec Ideal S1x513 .f32) (xs : ℕ → FVec Ideal S200x513 .f32) (f : Fin 513)

/-- A chunk's frames are like themselves in the lane. -/
theorem lane_alike (hR : Alike a R) (n : ℕ) (r : Fin 200) : R (xs n (ix2 r f)) (lane xs f (200 * n + r.val)) := by
  rw [lane_row]
  exact hR.refl _

/-- The mean carried into chunk `n` is like the running mean after `200 n` frames. -/
theorem mIn_alike (h : Weights a A p) (ha : a ≠ ⊤) (hR : Alike a R) : ∀ n,
    R (mIn A p m0 xs n (ix2 0 f)) (mean (1 - a) a (m0 (ix2 0 f)) (lane xs f) (200 * n))
  | 0 => hR.refl _
  | n + 1 => by
    have e := rows_alike h ha hR (mIn_alike h ha hR n)
      (X := fun i => lane xs f (200 * n + i)) (lane_alike xs f hR n) 199
    unfold mean at e
    rw [← avg_add] at e
    rw [mIn, last_apply]
    exact e

/-- Row `r` of chunk `n`'s means is like the running mean after frame `200 n + r`. -/
theorem mRows_alike (h : Weights a A p) (ha : a ≠ ⊤) (hR : Alike a R) (n : ℕ) (r : Fin 200) :
    R (mRows A p m0 xs n (ix2 r f)) (mean (1 - a) a (m0 (ix2 0 f)) (lane xs f) (200 * n + r.val + 1)) := by
  have e := rows_alike h ha hR (mIn_alike m0 xs f h ha hR n)
    (X := fun i => lane xs f (200 * n + i)) (lane_alike xs f hR n) r
  unfold mean at e
  rw [← avg_add] at e
  exact e

/-- The deviations of chunk `n`, row by row. -/
theorem dev_alike (h : Weights a A p) (ha : a ≠ ⊤) (hR : Alike a R) (n : ℕ) (r : Fin 200) :
    R (xs n (ix2 r f) - mRows A p m0 xs n (ix2 r f))
      (lane xs f (200 * n + r.val) - mean (1 - a) a (m0 (ix2 0 f)) (lane xs f) (200 * n + r.val + 1)) := by
  rw [sub_eq_add_neg, sub_eq_add_neg]
  exact hR.add (lane_alike xs f hR n r) (hR.neg (mRows_alike m0 xs f h ha hR n r))

/-- The squared deviations of chunk `n`, row by row. -/
theorem devSq_alike (h : Weights a A p) (ha : a ≠ ⊤) (hR : Alike a R) (n : ℕ) (r : Fin 200) :
    R (devSq (xs n) (mRows A p m0 xs n) (ix2 r f)) (sqDev (1 - a) a (m0 (ix2 0 f)) (lane xs f) (200 * n + r.val)) := by
  rw [devSq_apply, sqDev]
  exact hR.square (dev_alike m0 xs f h ha hR n r)

/-- The variance carried into chunk `n` is like the running variance after `200 n` frames. -/
theorem vIn_alike (h : Weights a A p) (ha : a ≠ ⊤) (hR : Alike a R) : ∀ n,
    R (vIn A p m0 v0 xs n (ix2 0 f)) (var (1 - a) a (m0 (ix2 0 f)) (v0 (ix2 0 f)) (lane xs f) (200 * n))
  | 0 => hR.refl _
  | n + 1 => by
    have e := rows_alike h ha hR (vIn_alike h ha hR n)
      (X := fun i => sqDev (1 - a) a (m0 (ix2 0 f)) (lane xs f) (200 * n + i)) (devSq_alike m0 xs f h ha hR n) 199
    unfold var at e
    rw [← avg_add] at e
    rw [vIn, last_apply]
    exact e

/-- Row `r` of chunk `n`'s variances is like the running variance after frame `200 n + r`. -/
theorem vRows_alike (h : Weights a A p) (ha : a ≠ ⊤) (hR : Alike a R) (n : ℕ) (r : Fin 200) :
    R (vRows A p m0 v0 xs n (ix2 r f))
      (var (1 - a) a (m0 (ix2 0 f)) (v0 (ix2 0 f)) (lane xs f) (200 * n + r.val + 1)) := by
  have e := rows_alike h ha hR (vIn_alike m0 v0 xs f h ha hR n)
    (X := fun i => sqDev (1 - a) a (m0 (ix2 0 f)) (lane xs f) (200 * n + i)) (devSq_alike m0 xs f h ha hR n) r
  unfold var at e
  rw [← avg_add] at e
  exact e

/-- Row `r` of what chunk `n` stores: the deviation over four times the variance plus the small constant. -/
theorem stored_apply (n : ℕ) (r : Fin 200) :
    stored A p m0 v0 xs n (ix3 0 r f)
      = Ideal.div (xs n (ix2 r f) - mRows A p m0 xs n (ix2 r f))
          (vRows A p m0 v0 xs n (ix2 r f) * four + small) := by
  unfold stored quot
  pointwise
  rfl

/-- With the factor plus infinity a chunk's row is zero or infinite, and infinite unless the row's own value is zero. -/
theorem rows_top (h : Weights ⊤ A p) (s : FVec Ideal S1x513 .f32) (x : FVec Ideal S200x513 .f32) (f : Fin 513)
    (r : Fin 200) : Extreme (rows A p s x (ix2 r f)) ∧ (x (ix2 r f) ≠ 0 → Infinite (rows A p s x (ix2 r f))) := by
  have hc : (1 : EReal) - ⊤ = ⊥ := by simp
  have hA : ∀ k : Fin 200, A (ix2 r k) = if k.val ≤ r.val then ⊥ else 0 := fun k => by
    rw [h.triangle, hc]
    rfl
  have hp : p (ix2 r 0) = ⊥ := by
    rw [h.powers, hc]
    rfl
  rw [rows_apply, hp]
  constructor
  · refine Extreme.add (Finset.sum_induction _ Extreme (fun _ _ hu hv => hu.add hv) (.inl rfl) fun k _ => ?_)
      (extreme_bot_mul _)
    rw [hA]
    split
    · exact extreme_bot_mul _
    · exact .inl (zero_mul _)
  · intro hx
    rw [← Finset.sum_erase_add _ _ (Finset.mem_univ r), hA, if_pos (le_refl _), mul_comm ⊥ (x _)]
    exact ((Infinite.mul_left (.inr rfl) hx).add_right _).add_left _

/-- Row `r` of what chunk `n` stores is frame `200 n + r` normalized, whatever the smoothing factor is. -/
theorem stored_normed (h : Weights a A p) (n : ℕ) (r : Fin 200) :
    stored A p m0 v0 xs n (ix3 0 r f) = normed (1 - a) a (m0 (ix2 0 f)) (v0 (ix2 0 f)) (lane xs f) (200 * n + r.val) := by
  rw [stored_apply]
  by_cases ha : a = ⊤
  · subst ha
    rw [normed_top]
    have hv := rows_top h (vIn A p m0 v0 xs n) (devSq (xs n) (mRows A p m0 xs n)) f r
    refine div_eq_zero hv.1 fun hd => hv.2 ?_
    rw [devSq_apply]
    exact mul_ne_zero hd hd
  · obtain ⟨R, hR⟩ := exists_alike ha
    exact hR.quot (dev_alike m0 xs f h ha hR n r) (vRows_alike m0 v0 xs f h ha hR n r)

end Cert.KernelIdeal.Chunk

end
-- ==== Proof.Entry.lean ====
/- The arrays that the kernel's host operations prepare, read at an index. -/
module

public import proofs.«01_k».proof.Proof.Chunks
public import Idealize.ShloMosaic.Lib.Claim

@[expose] public section

set_option maxRecDepth 16384

noncomputable section

open Idealize.ShloMosaic Idealize.ShloMosaic.TcCoe Idealize.SL.Sem

namespace Cert.KernelIdeal.Entry

open Cert.KernelIdeal Cert.KernelIdeal.Gen Cert.Average

variable (m : (ℓ : Loc nD τ sig) → Buf (Elt Ideal) ℓ) (c : Dev nD)

/-- The smoothing factor. -/
def alpha : EReal := m ((c.tc : Thread nD τ).loc main_arg3) (ix1 0)

/-- The host's counter at place `r` is the number `r`. -/
theorem count_eq (r : Fin 200) : (FloatOps.sitofp FTy.f32 (BitVec.ofNat 32 r.val) : Ideal .f32) = ((r.val : ℝ) : EReal) := by
  have h : (BitVec.ofNat 32 r.val).toInt = (r.val : ℤ) := by
    have hr : r.val < 200 := r.isLt
    rw [BitVec.toInt_eq_toNat_of_lt (by rw [BitVec.toNat_ofNat]; omega), BitVec.toNat_ofNat]
    omega
  show (((BitVec.ofNat 32 r.val).toInt : ℝ) : EReal) = _
  rw [h]
  norm_cast

/-- The differences of row number and column number. -/
def differences : FVec Ideal S200x200 .f32 :=
  subf (broadcastInDim S200x200 ![0, 1] bcast_S200x1_S200x200_0_1
      (broadcastInDim S200x1 ![0] bcast_S200_S200x1_0 (sitofp FTy.f32 (iotaInDim S200 32 0))))
    (broadcastInDim S200x200 ![0, 1] bcast_S1x200_S200x200_0_1
      (broadcastInDim S1x200 ![1] bcast_S200_S1x200_1 (sitofp FTy.f32 (iotaInDim S200 32 0))))

/-- A square of zeros. -/
def zeros : FVec Ideal S200x200 .f32 := broadcastInDim S200x200 ![] bcast_S_S200x200 (constant S_ FTy.f32 0#32)

/-- The weight triangle of a smoothing factor, as the host computes it. -/
def triangle (a : FVec Ideal S_ .f32) : FVec Ideal S200x200 .f32 :=
  select (cmpf CmpFPredicate.oge differences zeros)
    (mulf (broadcastInDim S200x200 ![] bcast_S_S200x200 a)
      (Host.powf (broadcastInDim S200x200 ![] bcast_S_S200x200 (subf (constant S_ FTy.f32 0x3F800000#32) a))
        (maximumf differences zeros)))
    zeros

/-- The difference at row `r`, column `k` is `r - k`. -/
theorem differences_apply (r k : Fin 200) : differences (ix2 r k) = ((r.val : ℝ) : EReal) - ((k.val : ℝ) : EReal) := by
  rw [← count_eq r, ← count_eq k]
  unfold differences
  pointwise

/-- A square of zeros holds zero. -/
theorem zeros_apply (r k : Fin 200) : zeros (ix2 r k) = 0 := by
  unfold zeros
  pointwise

/-- The triangle at row `r`, column `k`: `a * (1 - a) ^ (r - k)` on and below the diagonal, zero above it. -/
theorem triangle_apply (a : EReal) (r k : Fin 200) :
    triangle (fun _ => a) (ix2 r k)
      = if k.val ≤ r.val then a * Ideal.pow (1 - a) (((r.val - k.val : ℕ) : ℝ) : EReal) else 0 := by
  have e : triangle (fun _ => a) (ix2 r k)
      = if (0 : EReal) ≤ differences (ix2 r k) then a * Ideal.pow (1 - a) (max (differences (ix2 r k)) 0) else 0 := by
    unfold triangle
    show Scalar.select (Ideal.cmp .oge (differences (ix2 r k)) (zeros (ix2 r k)))
      (a * Ideal.pow (Ideal.ofBits .f32 0x3F800000#32 - a) (max (differences (ix2 r k)) (zeros (ix2 r k)))) (zeros (ix2 r k)) = _
    rw [zeros_apply, Ideal.ofBits_one_f32]
    simp only [Ideal.cmp, Scalar.select_ofBool, decide_eq_true_eq, ge_iff_le]
  rw [e, differences_apply]
  by_cases h : k.val ≤ r.val
  · have hd : ((r.val : ℝ) : EReal) - ((k.val : ℝ) : EReal) = (((r.val - k.val : ℕ) : ℝ) : EReal) := by
      rw [Nat.cast_sub h]; norm_cast
    have h0 : (0 : EReal) ≤ (((r.val - k.val : ℕ) : ℝ) : EReal) := by exact_mod_cast Nat.zero_le _
    rw [hd, if_pos h0, if_pos h, max_eq_left h0]
  · have hd : ¬ (0 : EReal) ≤ ((r.val : ℝ) : EReal) - ((k.val : ℝ) : EReal) := by
      rw [← EReal.coe_sub]
      have h' : (r.val : ℝ) < (k.val : ℝ) := by exact_mod_cast Nat.lt_of_not_le h
      intro hc
      have : (0 : ℝ) ≤ (r.val : ℝ) - (k.val : ℝ) := by exact_mod_cast hc
      linarith
    rw [if_neg hd, if_neg h]

/-- The first operand of the kernel's region is the weight triangle of the smoothing factor. -/
theorem v17_eq : (V m c main_v17 : FVec Ideal S200x200 .bf16) = triangle (fun _ => alpha m c) := by
  have e : (fun _ => alpha m c : FVec Ideal S_ .f32)
      = shapeCast S_ (m ((c.tc : Thread nD τ).loc main_arg3)) shapeCasts_S1_S_ := by
    funext i
    unfold alpha
    pointwise
  rw [e]
  simp only [V, hostOps0, hostOps0_1, hostOps0_2, List.flatten_cons, List.flatten_nil, List.append_nil, List.cons_append, List.nil_append]
  entry_read
  rfl

/-- The second operand at row `r` is `(1 - a) ^ (r + 1)`. -/
theorem v22_apply (r : Fin 200) :
    (V m c main_v22 : FVec Ideal S200x1 .f32) (ix2 r 0)
      = Ideal.pow (1 - alpha m c) (((r.val + 1 : ℕ) : ℝ) : EReal) := by
  simp only [V, hostOps0, hostOps0_1, hostOps0_2, List.flatten_cons, List.flatten_nil, List.append_nil, List.cons_append, List.nil_append]
  entry_read
  pointwise
  rw [count_eq, show ((r.val : ℝ) : EReal) + 1 = (((r.val + 1 : ℕ) : ℝ) : EReal) by push_cast; norm_cast]
  rfl

/-- The third operand is the mean to start from. -/
theorem v23_apply (f : Fin 513) : (V m c main_v23 : FVec Ideal S1x513 .f32) (ix2 0 f) = m ((c.tc : Thread nD τ).loc main_arg1) (ix3 0 0 f) := by
  simp only [V, hostOps0, hostOps0_1, hostOps0_2, List.flatten_cons, List.flatten_nil, List.append_nil, List.cons_append, List.nil_append]
  entry_read
  pointwise

/-- The fourth operand is the variance to start from. -/
theorem v24_apply (f : Fin 513) : (V m c main_v24 : FVec Ideal S1x513 .f32) (ix2 0 f) = m ((c.tc : Thread nD τ).loc main_arg2) (ix3 0 0 f) := by
  simp only [V, hostOps0, hostOps0_1, hostOps0_2, List.flatten_cons, List.flatten_nil, List.append_nil, List.cons_append, List.nil_append]
  entry_read
  pointwise

end Cert.KernelIdeal.Entry

end
-- ==== Proof.Expected.lean ====
/- The array that both programs are shown to compute. -/
module

public import proofs.«01_k».proof.Proof.Average
public import Idealize.ShloMosaic.Lib.Pointwise

@[expose] public section

noncomputable section

open Idealize.ShloMosaic

namespace Cert.Average

/-- The frames of batch element `b`, lane `f`, in order (and zeros after the last). -/
def signal {B : ℕ} (x : FVec Ideal ⟨3, ![B, 3000, 513]⟩ .f32) (b : Fin B) (f : Fin 513) (t : ℕ) : EReal :=
  if h : t < 3000 then x (ix3 b ⟨t, h⟩ f) else 0

/-- A frame of the signal is the array's entry. -/
theorem signal_val {B : ℕ} (x : FVec Ideal ⟨3, ![B, 3000, 513]⟩ .f32) (b : Fin B) (f : Fin 513) (t : Fin 3000) :
    signal x b f t.val = x (ix3 b t f) := dif_pos t.isLt

/-- Every frame of every lane of every batch element, normalized by the running mean and variance of its lane. -/
def expected (x : FVec Ideal ⟨3, ![16, 3000, 513]⟩ .f32) (m0 v0 : FVec Ideal ⟨3, ![1, 1, 513]⟩ .f32)
    (a : FVec Ideal ⟨1, ![1]⟩ .f32) : FVec Ideal ⟨3, ![16, 3000, 513]⟩ .f32 := fun i =>
  normed (1 - a (ix1 0)) (a (ix1 0)) (m0 (ix3 0 0 (i 2))) (v0 (ix3 0 0 (i 2))) (signal x (i 0) (i 2)) (i 1).val

end Cert.Average

end
-- ==== Proof.Point.lean ====
/- What one grid point leaves in its output block, entry by entry: the 3000 frames of its batch element, normalized. -/
module

public import proofs.«01_k».proof.Proof.Chunks
public import proofs.«01_k».proof.Proof.Expected
public import Idealize.ShloMosaic.Lib.Pipeline.ValueKit.Tiles

@[expose] public section

noncomputable section

open Idealize.ShloMosaic Idealize.ShloMosaic.TcCoe Idealize.SL.Sem

namespace Cert.KernelIdeal.Chunk

open Cert.KernelIdeal Cert.KernelIdeal.Gen Cert.Average

/-- Loading a whole array and keeping its shape gives the array. -/
theorem load_triangle (x : Vec Ideal S200x200 .bf16) :
    (shapeCast S200x200 (View.ld x r0_0) shapeCasts_S200x200_S200x200 : Vec Ideal S200x200 .bf16) = x := by
  funext j
  idx_vars j
  pointwise

/-- The same for the column of powers. -/
theorem load_powers (x : Vec Ideal S200x1 .f32) :
    (shapeCast S200x1 (View.ld x r0_1) shapeCasts_S200x1_S200x1 : Vec Ideal S200x1 .f32) = x := by
  funext j
  idx_vars j
  obtain rfl : j1 = 0 := Subsingleton.elim _ _
  pointwise

/-- The same for a row to start from. -/
theorem load_start (x : Vec Ideal S1x513 .f32) :
    (shapeCast S1x513 (View.ld x r0_2) shapeCasts_S1x513_S1x513 : Vec Ideal S1x513 .f32) = x := by
  funext j
  idx_vars j
  obtain rfl : j0 = 0 := Subsingleton.elim _ _
  pointwise

/-- Two hundred frames loaded from frame `o` on: row `r` is frame `o + r`. -/
theorem load_rows (x : Vec Ideal S1x3000x513 .f32) (o : ℕ)
    (ho : ∀ a, (![0, o, 0] : Fin 3 → ℕ) a + S1x200x513.size a ≤ S1x3000x513.size a) (r : Fin 200) (f : Fin 513)
    (h : o + r.val < 3000) :
    (shapeCast S200x513 (View.ld x (Rect.unit (s := S1x3000x513) ![0, o, 0] S1x200x513.size ho)) shapeCasts_S1x200x513_S200x513 :
      Vec Ideal S200x513 .f32) (ix2 r f) = x (ix3 0 ⟨o + r.val, h⟩ f) := by
  refine (shapeCast_dropUnit_apply ![200, 513] _ _ _).trans (View.ld_unit_apply_of (S := S1x3000x513) x _ _ ho _ _ ?_)
  intro i
  match i with
  | ⟨0, _⟩ => rfl
  | ⟨1, _⟩ => rfl
  | ⟨2, _⟩ => show f.val = 0 + f.val; omega

/-- Row `r` of chunk `j` of a batch element is its frame `200 j + r`. -/
theorem frames_apply (x : Vec Ideal S1x3000x513 .f32) (j : ℕ) (r : Fin 200) (f : Fin 513)
    (h : 200 * (j % 15) + r.val < 3000) : frames x j (ix2 r f) = x (ix3 0 ⟨200 * (j % 15) + r.val, h⟩ f) :=
  load_rows x _ (chunk_inside j) r f h

/-- Laid end to end, the 15 chunks are the signal. -/
theorem lane_frames (x : Vec Ideal S1x3000x513 .f32) (f : Fin 513) (t : ℕ) (ht : t < 3000) :
    lane (frames x) f t = signal x 0 f t := by
  unfold lane
  have e : 200 * (t / 200 % 15) + t % 200 = t := by omega
  rw [frames_apply x (t / 200) _ f (by show 200 * (t / 200 % 15) + t % 200 < 3000; omega), signal, dif_pos ht]
  congr 2
  exact Fin.ext e

/-- Frame `t` lies in one of the 15 chunks. -/
theorem chunk_holds (t : Fin 3000) (f : Fin 513) : ∃ k : Fin 15, ∀ i : Fin S1x3000x513.rank,
    (![0, 200 * ((14 - k.val) % 15), 0] : Fin 3 → ℕ) i ≤ ((ix3 0 t f : S1x3000x513.Idx) i).val
      ∧ ((ix3 0 t f : S1x3000x513.Idx) i).val < (![0, 200 * ((14 - k.val) % 15), 0] : Fin 3 → ℕ) i + S1x200x513.size i := by
  have ht : t.val < 3000 := t.isLt
  have hf : f.val < 513 := f.isLt
  refine ⟨⟨14 - t.val / 200, by omega⟩, fun i => ?_⟩
  match i with
  | ⟨0, _⟩ => exact ⟨Nat.le_refl 0, Nat.one_pos⟩
  | ⟨1, _⟩ =>
    show 200 * ((14 - (14 - t.val / 200)) % 15) ≤ t.val ∧ t.val < 200 * ((14 - (14 - t.val / 200)) % 15) + 200
    omega
  | ⟨2, _⟩ => show 0 ≤ f.val ∧ f.val < 0 + 513; omega

/-- A chunk that holds frame `t` of lane `f` has it normalized. -/
theorem chunk_value {a : EReal} {x0 : Vec Ideal S200x200 .bf16} {x1 : Vec Ideal S200x1 .f32} (h : Weights a x0 x1)
    (x2 x3 : Vec Ideal S1x513 .f32) (x4 : Vec Ideal S1x3000x513 .f32) (t : Fin 3000) (f : Fin 513) (k : Fin 15)
    (y0 : Fin 1) (y1 : Fin 200) (y2 : Fin 513)
    (h1 : t.val = 200 * ((14 - k.val) % 15) + y1.val) (h2 : f.val = 0 + y2.val) :
    stored x0 x1 x2 x3 (frames x4) (14 - k.val) (ix3 y0 y1 y2)
      = normed (1 - a) a (x2 (ix2 0 f)) (x3 (ix2 0 f)) (signal x4 0 f) t.val := by
  have hk : k.val < 15 := k.isLt
  have ht : t.val < 3000 := t.isLt
  obtain rfl : y0 = 0 := Subsingleton.elim _ _
  obtain rfl : y2 = f := Fin.ext (by omega)
  rw [stored_normed x2 x3 (frames x4) y2 h (14 - k.val) y1, show 200 * (14 - k.val) + y1.val = t.val by omega]
  exact normed_congr fun i hi => lane_frames x4 y2 i (by omega)

/-- Reading frame `t` of lane `f` out of 15 stored chunks: what every chunk that holds it has there. -/
theorem read_chunks (P : ℕ → Vec Ideal S1x200x513 .f32) (t : Fin 3000) (f : Fin 513) (v : EReal)
    (h : ∀ (k : Fin 15) (y0 : Fin 1) (y1 : Fin 200) (y2 : Fin 513),
      t.val = 200 * ((14 - k.val) % 15) + y1.val → f.val = 0 + y2.val → P (14 - k.val) (ix3 y0 y1 y2) = v) :
    View.canon (Val := Elt Ideal) (s := S1x3000x513) (e := .f32)
      (List.ofFn fun k : Fin 15 => ⟨place (14 - k.val), P (14 - k.val)⟩) (ix3 0 t f) = v := by
  refine View.canon_ofFn_eq_of_forall (Val := Elt Ideal) (S := S1x3000x513) (e := .f32) (fun k : Fin 15 => place (14 - k.val))
    (fun k => P (14 - k.val)) (ix3 0 t f) v ?_ ?_
  · obtain ⟨k, hk⟩ := chunk_holds t f
    exact ⟨k, Rect.mem_set_unit.mpr hk⟩
  · intro k y hy
    have e : ∀ i : Fin 3, ((place (14 - k.val)).emb y i).val = ((ix3 0 t f : S1x3000x513.Idx) i).val := fun i => by rw [hy]
    have e1 : 200 * ((14 - k.val) % 15) + 1 * (y 1).val = t.val := e 1
    have e2 : 0 + 1 * (y 2).val = f.val := e 2
    have ey : y = ix3 (y 0) (y 1) (y 2) := by
      funext i
      match i with
      | ⟨0, _⟩ => rfl
      | ⟨1, _⟩ => rfl
      | ⟨2, _⟩ => rfl
    rw [ey]
    exact h k (y 0) (y 1) (y 2) (by omega) (by omega)

/-- Entry `(0, t, f)` of the block a grid point stores: frame `t` of lane `f` normalized. -/
theorem out_apply {a : EReal} {x0 : Vec Ideal S200x200 .bf16} {x1 : Vec Ideal S200x1 .f32} (h : Weights a x0 x1)
    (x2 x3 : Vec Ideal S1x513 .f32) (x4 : Vec Ideal S1x3000x513 .f32) (t : Fin 3000) (f : Fin 513) :
    out0_5 x0 x1 x2 x3 x4 (ix3 0 t f)
      = normed (1 - a) a (x2 (ix2 0 f)) (x3 (ix2 0 f)) (signal x4 0 f) t.val := by
  have e := read_chunks (stored x0 x1 x2 x3 (frames x4)) t f
    (normed (1 - a) a (x2 (ix2 0 f)) (x3 (ix2 0 f)) (signal x4 0 f) t.val)
    fun k y0 y1 y2 h1 h2 => chunk_value h x2 x3 x4 t f k y0 y1 y2 h1 h2
  have e' := congrFun (out_eq x0 x1 x2 x3 x4) (ix3 0 t f)
  rw [load_triangle, load_powers, load_start, load_start] at e'
  refine e'.trans ?_
  with_reducible exact e

end Cert.KernelIdeal.Chunk

end
-- ==== Proof.KernelValue.lean ====
/- What the kernel's output array holds after the run. -/
module

public import proofs.«01_k».proof.Proof.Entry
public import proofs.«01_k».proof.Proof.Point
public import proofs.«01_k».proof.Proof.Gen.KernelIdeal.Value
public import Idealize.ShloMosaic.Lib.Pipeline.ValueKit

@[expose] public section

noncomputable section

open Idealize.ShloMosaic Idealize.ShloMosaic.TcCoe Idealize.SL.Sem

namespace Cert.KernelIdeal.Entry

open Cert.KernelIdeal Cert.KernelIdeal.Gen Cert.KernelIdeal.Chunk Cert.Average

variable (m : (ℓ : Loc nD τ sig) → Buf (Elt Ideal) ℓ) (c : Dev nD)

/-- Which block each window holds at grid point `t`: the whole array, or batch element `t`. -/
theorem index_at : ∀ t : Fin cfg0.N, win0_0.index t = ![0, 0] ∧ win0_1.index t = ![0, 0] ∧ win0_2.index t = ![0, 0]
    ∧ win0_3.index t = ![0, 0] ∧ win0_4.index t = ![t.val, 0, 0] ∧ win0_5.index t = ![t.val, 0, 0] :=
  (by decide +kernel : ∀ t : Fin grid0.N, _)

/-- The weight triangle reaches every grid point whole. -/
theorem block_triangle (t : Fin cfg0.N) (r k : Fin 200) :
    (iblk m c 0 t : Vec Ideal S200x200 .bf16) (ix2 r k) = (V m c main_v17 : FVec Ideal S200x200 .bf16) (ix2 r k) := by
  blk_ext [iblk, index_at t]

/-- The powers reach every grid point whole. -/
theorem block_powers (t : Fin cfg0.N) (r : Fin 200) :
    (iblk m c 1 t : Vec Ideal S200x1 .f32) (ix2 r 0) = (V m c main_v22 : FVec Ideal S200x1 .f32) (ix2 r 0) := by
  blk_ext [iblk, index_at t]

/-- The mean to start from reaches every grid point whole. -/
theorem block_mean (t : Fin cfg0.N) (f : Fin 513) :
    (iblk m c 2 t : Vec Ideal S1x513 .f32) (ix2 0 f) = (V m c main_v23 : FVec Ideal S1x513 .f32) (ix2 0 f) := by
  blk_ext [iblk, index_at t]

/-- The variance to start from reaches every grid point whole. -/
theorem block_var (t : Fin cfg0.N) (f : Fin 513) :
    (iblk m c 3 t : Vec Ideal S1x513 .f32) (ix2 0 f) = (V m c main_v24 : FVec Ideal S1x513 .f32) (ix2 0 f) := by
  blk_ext [iblk, index_at t]

/-- Grid point `t` is given batch element `t`. -/
theorem block_frames (t : Fin cfg0.N) (i : Fin 3000) (f : Fin 513) :
    (iblk m c 4 t : Vec Ideal S1x3000x513 .f32) (ix3 0 i f)
      = m ((c.tc : Thread nD τ).loc main_arg0) (ix3 (⟨t.val, t.isLt⟩ : Fin 16) i f) := by
  blk_ext [iblk, V_main_arg0 m c, index_at t]

/-- Grid point `t` stores batch element `t`. -/
theorem store_at (t : Fin cfg0.N) (i : Fin 3000) (f : Fin 513) :
    ((win0_5.blk t).view.emb (ix3 0 i f) : S16x3000x513.Idx) = ix3 (⟨t.val, t.isLt⟩ : Fin 16) i f := by
  blk_ext [index_at t]

/-- The weights a grid point is given are those of the smoothing factor. -/
theorem block_weights (t : Fin cfg0.N) : Weights (alpha m c) (iblk m c 0 t) (iblk m c 1 t) where
  triangle r k := by rw [block_triangle, v17_eq]; exact triangle_apply _ r k
  powers r := by rw [block_powers]; exact v22_apply m c r

/-- What grid point `t` stores is batch element `t` of the expected array. -/
theorem stored_block (t : Fin cfg0.N) (i : Fin 3000) (f : Fin 513) :
    out0_5 (iblk m c 0 t) (iblk m c 1 t) (iblk m c 2 t) (iblk m c 3 t) (iblk m c 4 t) (ix3 0 i f)
      = expected (m ((c.tc : Thread nD τ).loc main_arg0)) (m ((c.tc : Thread nD τ).loc main_arg1))
        (m ((c.tc : Thread nD τ).loc main_arg2)) (m ((c.tc : Thread nD τ).loc main_arg3)) (ix3 (⟨t.val, t.isLt⟩ : Fin 16) i f) := by
  rw [out_apply (block_weights m c t), block_mean, block_var, v23_apply, v24_apply]
  refine normed_congr fun k hk => ?_
  have hk' : k < 3000 := by have := i.isLt; omega
  exact (signal_val _ _ _ ⟨k, hk'⟩).trans ((block_frames m c t ⟨k, hk'⟩ f).trans (signal_val _ _ _ ⟨k, hk'⟩).symm)

/-- The kernel's output array after the run: every frame normalized. -/
theorem array_eq : (dats m 0 c).arrAt 5 cfg0.N
    = expected (m ((c.tc : Thread nD τ).loc main_arg0)) (m ((c.tc : Thread nD τ).loc main_arg1))
        (m ((c.tc : Thread nD τ).loc main_arg2)) (m ((c.tc : Thread nD τ).loc main_arg3)) := by
  refine (dats m 0 c).arrAt_eq_of_covers 5 _ (by decide +kernel) fun t hf y => ?_
  blk_simp
  rw [after0_5]
  have e : y = ix3 (0 : Fin 1) (y 1 : Fin 3000) (y 2 : Fin 513) := by
    funext a
    match a with
    | ⟨0, _⟩ => exact Subsingleton.elim (α := Fin 1) _ _
    | ⟨1, _⟩ => rfl
    | ⟨2, _⟩ => rfl
  rw [e]
  exact (stored_block m c t (y 1) (y 2)).trans (congrArg _ (store_at t (y 1) (y 2)).symm)

end Cert.KernelIdeal.Entry

end
-- ==== Proof.RefStep.lean ====
/- What one trip of the reference's loop does, entry by entry. -/
module

public import proofs.«01_k».proof.Proof.Expected
public import proofs.«01_k».proof.Proof.Gen.ReferenceIdeal.Run

@[expose] public section

noncomputable section

open Idealize.ShloMosaic Idealize.ShloMosaic.TcCoe Idealize.SL.Sem

namespace Cert.ReferenceIdeal.Scan

open Cert.ReferenceIdeal Cert.ReferenceIdeal.Gen Cert.ReferenceIdeal.Value Cert.Average

/-- The places at which a trip's slice starts: the frame's number, then zeros. -/
def starts (n : IVec S_ 32) : Fin 3 → ℤ :=
  fun k => ((![n, constantI S_ 32 0#32, constantI S_ 32 0#32] : Fin 3 → IVec S_ 32) k (Shape.Idx.first h_S_)).toInt

/-- Held between the ends of the array, the slice of frame `k` starts at frame `k`. -/
theorem clamp_starts (k : ℕ) (hk : k < 3000) (ht : S1x16x513.rank = S3000x16x513.rank) (a : Fin 3) :
    Host.clampedStart S3000x16x513 S1x16x513 ht (starts fun _ => BitVec.ofNat 32 k) a = (![k, 0, 0] : Fin 3 → ℕ) a := by
  have h : (BitVec.ofNat 32 k).toInt = (k : ℤ) := by
    rw [BitVec.toInt_eq_toNat_of_lt (by rw [BitVec.toNat_ofNat]; omega), BitVec.toNat_ofNat]
    omega
  match a with
  | ⟨0, _⟩ => exact Host.clampedStart_of_le ht _ _ k h (by show k + 1 ≤ 3000; omega)
  | ⟨1, _⟩ => exact Host.clampedStart_of_le ht _ _ 0 rfl (by show 0 + 16 ≤ 16; omega)
  | ⟨2, _⟩ => exact Host.clampedStart_of_le ht _ _ 0 rfl (by show 0 + 513 ≤ 513; omega)

/-- The slice of frame `k` is frame `k`. -/
theorem slice_apply (x : FVec Ideal S3000x16x513 .f32) (k : Fin 3000) (b : Fin 16) (f : Fin 513) :
    Host.dynamicSlice S1x16x513 x (starts fun _ => BitVec.ofNat 32 k.val) sliceFits_S3000x16x513_S1x16x513 (ix3 0 b f)
      = x (ix3 k b f) := by
  rw [Host.dynamicSlice_apply]
  refine congrArg x (funext fun a => Fin.ext ?_)
  match a with
  | ⟨0, _⟩ => exact (congrArg (· + 0) (clamp_starts k.val k.isLt _ 0)).trans (Nat.add_zero _)
  | ⟨1, _⟩ => exact (congrArg (· + b.val) (clamp_starts k.val k.isLt _ 1)).trans (Nat.zero_add _)
  | ⟨2, _⟩ => exact (congrArg (· + f.val) (clamp_starts k.val k.isLt _ 2)).trans (Nat.zero_add _)

/-- Writing frame `k` changes frame `k` and no other. -/
theorem update_apply (x : FVec Ideal S3000x16x513 .f32) (u : FVec Ideal S1x16x513 .f32) (k t : Fin 3000) (b : Fin 16) (f : Fin 513) :
    Host.dynamicUpdateSlice x u (starts fun _ => BitVec.ofNat 32 k.val) updateFits_S3000x16x513_S1x16x513 (ix3 t b f)
      = if t.val = k.val then u (ix3 0 b f) else x (ix3 t b f) := by
  rw [Host.dynamicUpdateSlice_apply]
  have hb := b.isLt
  have hf := f.isLt
  have c0 := clamp_starts k.val k.isLt updateFits_S3000x16x513_S1x16x513.1 0
  have c1 := clamp_starts k.val k.isLt updateFits_S3000x16x513_S1x16x513.1 1
  have c2 := clamp_starts k.val k.isLt updateFits_S3000x16x513_S1x16x513.1 2
  by_cases h : t.val = k.val
  · rw [if_pos h, dif_pos]
    · refine congrArg u (funext fun a => Fin.ext ?_)
      match a with
      | ⟨0, _⟩ => exact (congrArg (t.val - ·) c0).trans (by show t.val - k.val = 0; omega)
      | ⟨1, _⟩ => exact (congrArg (b.val - ·) c1).trans (Nat.sub_zero _)
      | ⟨2, _⟩ => exact (congrArg (f.val - ·) c2).trans (Nat.sub_zero _)
    · intro a
      match a with
      | ⟨0, _⟩ => erw [c0]; show k.val ≤ t.val ∧ t.val < k.val + 1; omega
      | ⟨1, _⟩ => erw [c1]; show 0 ≤ b.val ∧ b.val < 0 + 16; omega
      | ⟨2, _⟩ => erw [c2]; show 0 ≤ f.val ∧ f.val < 0 + 513; omega
  · rw [if_neg h, dif_neg]
    intro hin
    have h0 := hin 0
    erw [c0] at h0
    have h0' : k.val ≤ t.val ∧ t.val < k.val + 1 := h0
    omega

/-- What the loop's buffers hold after `k` trips, for frames `x`, a mean and a variance to start from and a smoothing
    factor `a`: the running mean and variance of every lane after `k` frames, and those of the frames so far. -/
structure Holds (x : FVec Ideal S16x3000x513 .f32) (m0 v0 : FVec Ideal S1x1x513 .f32) (a : EReal)
    (V : Valuation τ sig (Elt Ideal)) (k : ℕ) : Prop where
  frame : ∀ (t : Fin 3000) (b : Fin 16) (f : Fin 513),
    (V (Proc.devRef .tc main_v8_0) : FVec Ideal S3000x16x513 .f32) (ix3 t b f) = x (ix3 b t f)
  factor : (V (Proc.devRef .tc main_v8_1) : FVec Ideal S_ .f32) = fun _ => a
  trip : (V (Proc.devRef .tc main_v8_2) : IVec S_ 32) = fun _ => BitVec.ofNat 32 k
  mean_now : ∀ (b : Fin 16) (f : Fin 513), (V (Proc.devRef .tc main_v8_3) : FVec Ideal S16x513 .f32) (ix2 b f)
    = mean (1 - a) a (m0 (ix3 0 0 f)) (signal x b f) k
  var_now : ∀ (b : Fin 16) (f : Fin 513), (V (Proc.devRef .tc main_v8_4) : FVec Ideal S16x513 .f32) (ix2 b f)
    = var (1 - a) a (m0 (ix3 0 0 f)) (v0 (ix3 0 0 f)) (signal x b f) k
  mean_at : ∀ (t : Fin 3000) (b : Fin 16) (f : Fin 513), t.val < k →
    (V (Proc.devRef .tc main_v8_5) : FVec Ideal S3000x16x513 .f32) (ix3 t b f)
      = mean (1 - a) a (m0 (ix3 0 0 f)) (signal x b f) (t.val + 1)
  var_at : ∀ (t : Fin 3000) (b : Fin 16) (f : Fin 513), t.val < k →
    (V (Proc.devRef .tc main_v8_6) : FVec Ideal S3000x16x513 .f32) (ix3 t b f)
      = var (1 - a) a (m0 (ix3 0 0 f)) (v0 (ix3 0 0 f)) (signal x b f) (t.val + 1)

section Trip

variable {x : FVec Ideal S16x3000x513 .f32} {m0 v0 : FVec Ideal S1x1x513 .f32} {a : EReal}
  {V : Valuation τ sig (Elt Ideal)} {k : ℕ}

/-- A trip reads frame `k`. -/
theorem Holds.read (h : Holds x m0 v0 a V k) (hk : k < 3000) (b : Fin 16) (f : Fin 513) :
    (res_main_while0b_v17 V : FVec Ideal S16x513 .f32) (ix2 b f) = signal x b f k := by
  have e : (res_main_while0b_v17 V : FVec Ideal S16x513 .f32) (ix2 b f)
      = Host.dynamicSlice S1x16x513 (V (Proc.devRef .tc main_v8_0) : FVec Ideal S3000x16x513 .f32)
        (starts (V (Proc.devRef .tc main_v8_2))) sliceFits_S3000x16x513_S1x16x513 (ix3 0 b f) := by
    refine (shapeCast_dropUnit_apply ![16, 513] _ _ (ix2 b f)).trans (congrArg _ (funext fun i => ?_))
    match i with
    | ⟨0, _⟩ => rfl
    | ⟨1, _⟩ => rfl
    | ⟨2, _⟩ => rfl
  rw [e, h.trip]
  exact (slice_apply _ ⟨k, hk⟩ b f).trans ((h.frame ⟨k, hk⟩ b f).trans (signal_val x b f ⟨k, hk⟩).symm)

/-- A trip makes the next mean. -/
theorem Holds.next_mean (h : Holds x m0 v0 a V k) (hk : k < 3000) (b : Fin 16) (f : Fin 513) :
    (res_main_while0b_v23 V : FVec Ideal S16x513 .f32) (ix2 b f)
      = mean (1 - a) a (m0 (ix3 0 0 f)) (signal x b f) (k + 1) := by
  have e := h.read hk b f
  have e3 := h.mean_now b f
  unfold res_main_while0b_v23
  rw [h.factor]
  pointwise
  rw [e, e3]
  rfl

/-- A trip makes the next variance. -/
theorem Holds.next_var (h : Holds x m0 v0 a V k) (hk : k < 3000) (b : Fin 16) (f : Fin 513) :
    (res_main_while0b_v31 V : FVec Ideal S16x513 .f32) (ix2 b f)
      = var (1 - a) a (m0 (ix3 0 0 f)) (v0 (ix3 0 0 f)) (signal x b f) (k + 1) := by
  have e := h.read hk b f
  have em := h.next_mean hk b f
  have e4 := h.var_now b f
  unfold res_main_while0b_v31 res_main_while0b_v27
  rw [h.factor]
  pointwise
  rw [e, em, e4]
  rfl

/-- A trip writes the values `u` at frame `k` of a history `y` and keeps its other frames. -/
theorem Holds.write (h : Holds x m0 v0 a V k) (hk : k < 3000) (y : FVec Ideal S3000x16x513 .f32) (u : FVec Ideal S16x513 .f32)
    (t : Fin 3000) (b : Fin 16) (f : Fin 513) :
    Host.dynamicUpdateSlice y (broadcastInDim S1x16x513 ![1, 2] bcast_S16x513_S1x16x513_1_2 u)
      (starts (V (Proc.devRef .tc main_v8_2))) updateFits_S3000x16x513_S1x16x513 (ix3 t b f)
      = if t.val = k then u (ix2 b f) else y (ix3 t b f) := by
  rw [h.trip]
  refine (update_apply y _ ⟨k, hk⟩ t b f).trans ?_
  congr 1
  pointwise

/-- One more trip. -/
theorem Holds.step (h : Holds x m0 v0 a V k) (hk : k < 3000) : Holds x m0 v0 a (STEP V) (k + 1) where
  frame := by rw [STEP_main_v8_0]; exact h.frame
  factor := by rw [STEP_main_v8_1]; exact h.factor
  trip := by
    rw [STEP_main_v8_2]
    unfold step_main_v8_2
    rw [h.trip]
    funext i
    exact (BitVec.ofNat_add k 1).symm
  mean_now := by rw [STEP_main_v8_3]; exact h.next_mean hk
  var_now := by rw [STEP_main_v8_4]; exact h.next_var hk
  mean_at t b f ht := by
    rw [STEP_main_v8_5]
    refine (h.write hk _ _ t b f).trans ?_
    by_cases e : t.val = k
    · rw [if_pos e, h.next_mean hk, e]
    · rw [if_neg e]; exact h.mean_at t b f (by omega)
  var_at t b f ht := by
    rw [STEP_main_v8_6]
    refine (h.write hk _ _ t b f).trans ?_
    by_cases e : t.val = k
    · rw [if_pos e, h.next_var hk, e]
    · rw [if_neg e]; exact h.var_at t b f (by omega)

end Trip

end Cert.ReferenceIdeal.Scan

end
-- ==== Proof.RefValue.lean ====
/- What the reference's output array holds after the run. -/
module

public import proofs.«01_k».proof.Proof.RefStep
public import Idealize.ShloMosaic.Lib.Claim

@[expose] public section

noncomputable section

open Idealize.ShloMosaic Idealize.ShloMosaic.TcCoe Idealize.SL.Sem Idealize.ShloMosaic.StableHlo

namespace Cert.ReferenceIdeal.Scan

open Cert.ReferenceIdeal Cert.ReferenceIdeal.Gen Cert.ReferenceIdeal.Value Cert.Average

variable (m : (ℓ : Loc nD τ sig) → Buf (Elt Ideal) ℓ) (c : Dev nD)

/-- The loop starts with the frames, the smoothing factor and the averages given, and with no frame taken in. -/
theorem holds_entry : Holds (m ((c.tc : Thread nD τ).loc main_arg0)) (m ((c.tc : Thread nD τ).loc main_arg1))
    (m ((c.tc : Thread nD τ).loc main_arg2)) ((m ((c.tc : Thread nD τ).loc main_arg3) : FVec Ideal S1 .f32) (ix1 0))
    (entryContents preI m c) 0 where
  frame t b f := by
    simp only [entryContents, afterL_cons, afterL_nil]
    entry_read
    rw [id_eq]
    pointwise
  factor := by
    simp only [entryContents, afterL_cons, afterL_nil]
    entry_read
    funext i
    pointwise
    rfl
  trip := ctr_entry m c
  mean_now b f := by
    simp only [entryContents, afterL_cons, afterL_nil]
    entry_read
    pointwise
    rfl
  var_now b f := by
    simp only [entryContents, afterL_cons, afterL_nil]
    entry_read
    pointwise
    rfl
  mean_at t b f ht := absurd ht (Nat.not_lt_zero _)
  var_at t b f ht := absurd ht (Nat.not_lt_zero _)

/-- After `k` trips the buffers hold the averages after `k` frames. -/
theorem holds_iterate : ∀ k, k ≤ 3000 → Holds (m ((c.tc : Thread nD τ).loc main_arg0)) (m ((c.tc : Thread nD τ).loc main_arg1))
    (m ((c.tc : Thread nD τ).loc main_arg2)) ((m ((c.tc : Thread nD τ).loc main_arg3) : FVec Ideal S1 .f32) (ix1 0))
    (STEP^[k] (entryContents preI m c)) k
  | 0, _ => holds_entry m c
  | k + 1, hk => by
    rw [Function.iterate_succ_apply']
    exact (holds_iterate k (by omega)).step (by omega)

/-- The reference's output array after the run: every frame normalized. -/
theorem array_eq : out_main_v16 (STEP^[3000] (entryContents preI m c))
    = expected (m ((c.tc : Thread nD τ).loc main_arg0)) (m ((c.tc : Thread nD τ).loc main_arg1))
        (m ((c.tc : Thread nD τ).loc main_arg2)) (m ((c.tc : Thread nD τ).loc main_arg3)) := by
  have h := holds_iterate m c 3000 (Nat.le_refl _)
  have e0 := iter_main_arg0 m c 3000
  generalize STEP^[3000] (entryContents preI m c) = V at h e0
  funext i
  idx_vars i
  have e5 := h.mean_at i1 i0 i2 i1.isLt
  have e6 := h.var_at i1 i0 i2 i1.isLt
  unfold out_main_v16
  rw [e0]
  pointwise
  rw [e5, e6]
  show _ = normed _ _ _ _ (signal _ i0 i2) i1.val
  unfold normed
  rw [signal_val]
  rfl

end Cert.ReferenceIdeal.Scan

end
-- ==== Proof.Equation.lean ====
/- The equation of the two programs: both runs end with the expected array. -/
module

public import proofs.«01_k».proof.Defs
public import proofs.«01_k».proof.Proof.KernelValue
public import proofs.«01_k».proof.Proof.RefValue

@[expose] public section

noncomputable section

open Idealize.ShloMosaic Idealize.ShloMosaic.TcCoe Idealize.SL.Sem

namespace Cert.Equation

open Cert.Average

/-- Started on equal arguments, whatever they hold, kernel and reference end with equal arrays. -/
theorem algebraic : Cert.algebraic_KernelIdeal_ReferenceIdeal := by
  intro m g m' g' _ hagree
  refine ⟨fun c => expected (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3)), ?_, ?_⟩
  · refine (θ_run Cert.KernelIdeal.defs _ _).mono (fun r h c => ?_) (Cert.KernelIdeal.Value.run_blocks (F := Ideal) m g)
    exact ⟨(h c).1.trans (Cert.KernelIdeal.Entry.array_eq m c), (h c).2⟩
  · refine (θ_run Cert.ReferenceIdeal.defs _ _).mono (fun r h c => ?_) (Cert.ReferenceIdeal.Value.run (F := Ideal) m' g')
    refine ⟨(h c).1.trans ((Cert.ReferenceIdeal.Scan.array_eq m' c).trans ?_), (h c).2⟩
    obtain ⟨e0, e1, e2, e3⟩ := hagree c
    rw [e0, e1, e2, e3]

end Cert.Equation

end
-- ==== Proof.ReferenceFrame.lean ====
/- The frames of the reference, at machine floats and over the extended reals. -/
module

public import proofs.«01_k».proof.Defs
public import proofs.«01_k».proof.Proof.Gen.Reference.Run
public import proofs.«01_k».proof.Proof.Gen.ReferenceIdeal.Run
public import Idealize.ShloMosaic.Lib.Quiescent

@[expose] public section

noncomputable section

open Idealize.ShloMosaic Idealize.SL.Sem

namespace Cert.ReferenceFrame

/-- The reference's run at machine floats leaves its arguments as they were and every counter at zero. -/
theorem machine : Cert.quiescent_Reference := fun m g _ =>
  (θ_run Cert.Reference.defs _ _).mono (fun r h => ⟨fun c => (h c).2, sem_eq_zero_of_no_sems (by decide) r.2⟩)
    (Cert.Reference.Value.run m g)

/-- The same over the extended reals. -/
theorem ideal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.ReferenceFrame

end
-- ==== Proof.lean ====
module

public import proofs.«01_k».proof.Defs
public import proofs.«01_k».proof.Proof.Gen.Kernel.Frame
public import proofs.«01_k».proof.Proof.Equation
public import proofs.«01_k».proof.Proof.ReferenceFrame
public import Idealize.ShloMosaic.Adequacy
public import Idealize.ShloMosaic.Init

@[expose] public section

noncomputable section

namespace Cert.Proof

open Idealize.ShloMosaic Idealize.SL.Sem

/-- Everything claimed: every run ends with the arguments as they were and every counter at zero, and the kernel's result
    is the reference's. -/
theorem claim : Cert.Claim :=
  ⟨Cert.Kernel.Gen.facts, Cert.KernelIdeal.Gen.facts, Cert.Reference.Gen.facts, Cert.ReferenceIdeal.Gen.facts,
    fun m g _ => Cert.Kernel.Gen.frame m g,
    fun m g _ => Cert.KernelIdeal.Gen.frame m g,
    Cert.ReferenceFrame.machine,
    Cert.ReferenceFrame.ideal,
    trivial,
    trivial,
    Cert.Equation.algebraic⟩

end Cert.Proof

end
